-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x3584 : Shape := ⟨3, ![6, 2048, 3584]⟩
abbrev S6x2048x1 : Shape := ⟨3, ![6, 2048, 1]⟩
abbrev S3584x6016 : Shape := ⟨2, ![3584, 6016]⟩
abbrev S6016 : Shape := ⟨1, ![6016]⟩
abbrev S12288x3584 : Shape := ⟨2, ![12288, 3584]⟩
abbrev S96x128 : Shape := ⟨2, ![96, 128]⟩
abbrev S12288x6016 : Shape := ⟨2, ![12288, 6016]⟩
abbrev S1024x3584 : Shape := ⟨2, ![1024, 3584]⟩
abbrev S1024x6016 : Shape := ⟨2, ![1024, 6016]⟩
abbrev S8x128 : Shape := ⟨2, ![8, 128]⟩
abbrev S1x128 : Shape := ⟨2, ![1, 128]⟩
abbrev S128x128 : Shape := ⟨2, ![128, 128]⟩
abbrev S1024x128 : Shape := ⟨2, ![1024, 128]⟩
abbrev S1024x1 : Shape := ⟨2, ![1024, 1]⟩
abbrev S1x6016 : Shape := ⟨2, ![1, 6016]⟩
abbrev S6x2048x6016 : Shape := ⟨3, ![6, 2048, 6016]⟩

abbrev nBuf : Space → Nat
  | .hbm => 8
  | .vmem => 7
  | .smem => 0
  | _ => 0

abbrev bufTy : (tb : Table) → Fin (tcTables nBuf tb) → BufTy
  | .hbm, ⟨0, _⟩ => ⟨S6x2048x3584, .fp8e4m3⟩
  | .hbm, ⟨1, _⟩ => ⟨S6x2048x1, .f32⟩
  | .hbm, ⟨2, _⟩ => ⟨S3584x6016, .fp8e4m3⟩
  | .hbm, ⟨3, _⟩ => ⟨S6016, .f32⟩
  | .hbm, ⟨4, _⟩ => ⟨S12288x3584, .fp8e4m3⟩
  | .hbm, ⟨5, _⟩ => ⟨S96x128, .f32⟩
  | .hbm, ⟨6, _⟩ => ⟨S12288x6016, .bf16⟩
  | .hbm, ⟨7, _⟩ => ⟨S6x2048x6016, .bf16⟩
  | .local _ .vmem, ⟨0, _⟩ => ⟨S1024x3584, .fp8e4m3⟩
  | .local _ .vmem, ⟨1, _⟩ => ⟨S1024x3584, .fp8e4m3⟩
  | .local _ .vmem, ⟨2, _⟩ => ⟨S96x128, .f32⟩
  | .local _ .vmem, ⟨3, _⟩ => ⟨S3584x6016, .fp8e4m3⟩
  | .local _ .vmem, ⟨4, _⟩ => ⟨S6016, .f32⟩
  | .local _ .vmem, ⟨5, _⟩ => ⟨S1024x6016, .bf16⟩
  | .local _ .vmem, ⟨6, _⟩ => ⟨S1024x6016, .bf16⟩
  | _, _ => ⟨S6x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let c8_i32 : BitVec 32 := 8#32
  let v0 : BitVec 32 := Scalar.muli arg0 c8_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x6016 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x6016 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S6x2048x3584 : Shape := ⟨3, ![6, 2048, 3584]⟩
abbrev S6x2048x1 : Shape := ⟨3, ![6, 2048, 1]⟩
abbrev S3584x6016 : Shape := ⟨2, ![3584, 6016]⟩
abbrev S6016 : Shape := ⟨1, ![6016]⟩
abbrev S6x2048x6016 : Shape := ⟨3, ![6, 2048, 6016]⟩
abbrev S1x1x6016 : Shape := ⟨3, ![1, 1, 6016]⟩

abbrev nBuf : Space → Nat
  | .hbm => 5
  | .vmem => 5
  | .smem => 0
  | _ => 0

abbrev bufTy : (tb : Table) → Fin (tcTables nBuf tb) → BufTy
  | .hbm, ⟨0, _⟩ => ⟨S6x2048x3584, .fp8e4m3⟩
  | .hbm, ⟨1, _⟩ => ⟨S6x2048x1, .f32⟩
  | .hbm, ⟨2, _⟩ => ⟨S3584x6016, .fp8e4m3⟩
  | .hbm, ⟨3, _⟩ => ⟨S6016, .f32⟩
  | .hbm, ⟨4, _⟩ => ⟨S6x2048x6016, .bf16⟩
  | .local _ .vmem, ⟨0, _⟩ => ⟨S6x2048x3584, .fp8e4m3⟩
  | .local _ .vmem, ⟨1, _⟩ => ⟨S6x2048x1, .f32⟩
  | .local _ .vmem, ⟨2, _⟩ => ⟨S3584x6016, .fp8e4m3⟩
  | .local _ .vmem, ⟨3, _⟩ => ⟨S6016, .f32⟩
  | .local _ .vmem, ⟨4, _⟩ => ⟨S6x2048x6016, .bf16⟩
  | _, _ => ⟨S6x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x6016 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x6016 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelBlock.lean ====
/-
  What one block of the kernel computes, in exact arithmetic.

  At grid point `i` the kernel takes 1024 rows of the activations, all of the weights, and the eight lines of the table of
  row scales that belong to those rows (line `g` of the eight holds the scales of rows `128 g … 128 g + 127`). It spreads
  the eight lines into one column of 1024 scales, contracts the rows with the weights, and multiplies by the row's scale and
  the column's scale. `pay_apply` says so element by element; `out_eq` says that the body's one store leaves exactly this.
-/
module

public import proofs.«01_k».proof.Proof.Gen.KernelIdeal.Frame
public import Idealize.ShloMosaic.Lib.Pointwise
public import Idealize.ShloMosaic.Lib.Pipeline.Value

@[expose] public section

noncomputable section

namespace Cert.KernelIdeal.Block

open Cert.KernelIdeal Cert.KernelIdeal.Gen Idealize.ShloMosaic

/-- A ladder of eight tests on the row that picks line `g` of the table at lane `r - 128 g` reads the table at line
    `r / 128`, lane `r % 128`. -/
theorem ladder_eq (xs : Vec Ideal S8x128 .f32) (r : Fin 1024) (g : Fin 8) (l : Fin 128) (h : 128 * g.val + l.val = r.val) :
    xs (ix2 g l) = xs (ix2 ⟨r.val / 128, by omega⟩ ⟨r.val % 128, by omega⟩) := by
  have hg : g = ⟨r.val / 128, by omega⟩ := Fin.ext (by simp only; omega)
  have hl : l = ⟨r.val % 128, by omega⟩ := Fin.ext (by simp only; omega)
  rw [← hg, ← hl]

/-- The block's value at row `r` and column `q`: the contraction of row `r` of the activations with column `q` of the
    weights, times the row's scale (line `r / 128`, lane `r % 128` of the eight lines), times the column's scale. -/
theorem pay_apply (xs : Vec Ideal S8x128 .f32) (x : Vec Ideal S1024x3584 .fp8e4m3) (w : Vec Ideal S3584x6016 .fp8e4m3)
    (ws : Vec Ideal S6016 .f32) (r : Fin 1024) (q : Fin 6016) :
    k0_pay1 (F := Ideal) xs x w ws (ix2 r q)
      = (∑ k : Fin 3584, x (ix2 r k) * w (ix2 k q)) * xs (ix2 ⟨r.val / 128, by omega⟩ ⟨r.val % 128, by omega⟩) * ws (ix1 q) := by
  pointwise [k0_pay1]
  congr 2
  repeat' split
  all_goals exact ladder_eq xs r _ _ (by simp <;> omega)

variable {F : FTy → Type} [FloatOps F]

theorem hz2 : (![0, 0] : Fin 2 → Nat) = fun _ => 0 := funext fun a => by fin_cases a <;> rfl

theorem hz1 : (![0] : Fin 1 → Nat) = fun _ => 0 := funext fun a => by fin_cases a <;> rfl

/-- The eight lines of the table of row scales that the body loads at grid point `i`. -/
abbrev lines (i : grid0.Coords) (x1 : Vec F S96x128 .f32) : Vec F S8x128 .f32 :=
  View.ld x1 (Rect.unit (s := S96x128) (k0_off1 i) S8x128.size (k0_off1_inb i))

/-- What the body leaves in the result's staging buffer is its one store's value: the block's value of the activations
    `x0`, the loaded lines of the table `x1`, the weights `x2` and the column scales `x3`. -/
theorem out_eq (c : Dev nD) (i : grid0.Coords) (a1 : Memref sig .tc .vmem S1024x3584 .fp8e4m3) (h1 : a1.IsWhole)
    (a2 : Memref sig .tc .vmem S96x128 .f32) (h2 : a2.IsWhole) (a3 : Memref sig .tc .vmem S3584x6016 .fp8e4m3) (h3 : a3.IsWhole)
    (a4 : Memref sig .tc .vmem S6016 .f32) (h4 : a4.IsWhole) (a5 : Memref sig .tc .vmem S1024x6016 .bf16) (h5 : a5.IsWhole)
    (x0 : Vec F S1024x3584 .fp8e4m3) (x1 : Vec F S96x128 .f32) (x2 : Vec F S3584x6016 .fp8e4m3) (x3 : Vec F S6016 .f32) :
    out0_A_4 c i a1 h1 a2 h2 a3 h3 a4 h4 a5 h5 x0 x1 x2 x3 = k0_pay1 (lines i x1) x0 x2 x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz2]
  simp only [View.readAt_eq_ld, h1.read_unread, h2.read_unread, h3.read_unread, h4.read_unread,
    View.ld_unit_zero (S := S1024x3584) hz2, View.ld_unit_zero (S := S3584x6016) hz2, View.ld_unit_zero (S := S6016) hz1]
  rfl

/-- Line `g`, lane `l` of the loaded lines is line `8 i + g`, lane `l` of the table. -/
theorem lines_apply (i : grid0.Coords) (x1 : Vec F S96x128 .f32) (g : Fin 8) (l : Fin 128) (n : Fin 96)
    (hn : n.val = 8 * (i 0).val + g.val) : lines i x1 (ix2 g l) = x1 (ix2 n l) := by
  have h := k0_off1_eq i
  refine congrArg x1 (funext fun a => Fin.ext ?_)
  match a with
  | ⟨0, _⟩ => show k0_off1 i 0 + 1 * g.val = n.val; rw [h, hn]; simp
  | ⟨1, _⟩ => show k0_off1 i 1 + 1 * l.val = l.val; rw [h]; simp

end Cert.KernelIdeal.Block

end
-- ==== Proof.KernelArray.lean ====
/-
  What the kernel's result array holds after the grid has run, in exact arithmetic.

  The twelve grid points each write one band of 1024 rows, and the bands fill the 12288 rows. So the array is one function,
  `rows`, of the four arrays the grid reads (`final4`): at row `r`, column `q` the contraction of row `r` of the activations
  with column `q` of the weights, times entry (`r / 128`, `r % 128`) of the table of row scales, times column scale `q`.
-/
module

public import proofs.«01_k».proof.Proof.KernelBlock

@[expose] public section

noncomputable section

namespace Cert.KernelIdeal.Block

open Cert.KernelIdeal Cert.KernelIdeal.Gen Idealize.ShloMosaic Idealize.ShloMosaic.TcCoe Idealize.SL.Sem

/-- The kernel's value at row `r`, column `q` of the flattened result: `X` the activations by rows, `T` the table of row
    scales, `W` the weights, `s` the column scales. -/
def at_ (X : Vec Ideal S12288x3584 .fp8e4m3) (T : Vec Ideal S96x128 .f32) (W : Vec Ideal S3584x6016 .fp8e4m3)
    (s : Vec Ideal S6016 .f32) (r : Fin 12288) (q : Fin 6016) : Elt Ideal .bf16 :=
  (∑ k : Fin 3584, X (ix2 r k) * W (ix2 k q)) * T (ix2 ⟨r.val / 128, by omega⟩ ⟨r.val % 128, by omega⟩) * s (ix1 q)

/-- The whole flattened result, index by index. -/
def rows (X : Vec Ideal S12288x3584 .fp8e4m3) (T : Vec Ideal S96x128 .f32) (W : Vec Ideal S3584x6016 .fp8e4m3)
    (s : Vec Ideal S6016 .f32) : Vec Ideal S12288x6016 .bf16 := fun j => at_ X T W s (j 0) (j 1)

/-- A block whose row `r` of activations is row `n` of `X`, and whose scale at row `r` is the table's entry for row `n`, has at
    row `r` the kernel's value at row `n`. -/
theorem pay_eq_at (X : Vec Ideal S12288x3584 .fp8e4m3) (T : Vec Ideal S96x128 .f32) (W : Vec Ideal S3584x6016 .fp8e4m3)
    (s : Vec Ideal S6016 .f32) (xs : Vec Ideal S8x128 .f32) (x : Vec Ideal S1024x3584 .fp8e4m3) (r : Fin 1024) (q : Fin 6016)
    (n : Fin 12288) (hx : ∀ k, x (ix2 r k) = X (ix2 n k))
    (hT : xs (ix2 ⟨r.val / 128, by omega⟩ ⟨r.val % 128, by omega⟩) = T (ix2 ⟨n.val / 128, by omega⟩ ⟨n.val % 128, by omega⟩)) :
    k0_pay1 (F := Ideal) xs x W s (ix2 r q) = at_ X T W s n q := by
  rw [pay_apply, hT]
  unfold at_
  simp only [hx]

section
variable {F : FTy → Type} [FloatOps F]
variable (m : (ℓ : Loc nD τ sig) → Buf (Elt F) ℓ)

/-- The grid coordinate of point `t` is `t`. -/
theorem coord : ∀ t : Fin cfg0.N, (grid0.coords t 0).val = t.val :=
  (by decide +kernel : ∀ t : Fin grid0.N, (grid0.coords t 0).val = t.val)

/-- The block index of the activations at point `t` is (`t`, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block index of the table of row scales is (0, 0) at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The block index of the weights is (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The block index of the column scales is 0 at every point. -/
theorem idx3 : ∀ t : Fin cfg0.N, win0_3.index t (0 : Fin 1) = 0 :=
  (by decide +kernel : ∀ t : Fin grid0.N, win0_3.index t (0 : Fin 1) = 0)

/-- The block index of the result at point `t` is (`t`, 0). -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Row `r` of point `t`'s band of activations is row `1024 t + r` of the activations. -/
theorem iblk0_apply (c : Dev nD) (t : Fin cfg0.N) (r : Fin 1024) (k : Fin 3584) (n : Fin 12288)
    (hn : n.val = 1024 * t.val + r.val) :
    (iblk m c 0 t : Vec F S1024x3584 .fp8e4m3) (ix2 r k) = (V m c main_v0 : Vec F S12288x3584 .fp8e4m3) (ix2 n k) := by
  obtain ⟨e0, e1⟩ := idx0 t
  refine congrArg (V m c main_v0) (funext fun a => Fin.ext ?_)
  match a with
  | ⟨0, _⟩ => show win0_0.index t (0 : Fin 2) * 1024 + 1 * r.val = n.val; omega
  | ⟨1, _⟩ => show win0_0.index t (1 : Fin 2) * 3584 + 1 * k.val = k.val; omega

/-- Every point's block of the table of row scales is the whole table. -/
theorem iblk1_eq (c : Dev nD) (t : Fin cfg0.N) : (iblk m c 1 t : Vec F S96x128 .f32) = V m c main_v1 := by
  obtain ⟨e0, e1⟩ := idx1 t
  funext j
  refine congrArg (V m c main_v1) (funext fun a => Fin.ext ?_)
  match a with
  | ⟨0, _⟩ => show win0_1.index t (0 : Fin 2) * 96 + 1 * (j 0).val = (j 0).val; omega
  | ⟨1, _⟩ => show win0_1.index t (1 : Fin 2) * 128 + 1 * (j 1).val = (j 1).val; omega

/-- Every point's block of the weights is the whole array. -/
theorem iblk2_eq (c : Dev nD) (t : Fin cfg0.N) : (iblk m c 2 t : Vec F S3584x6016 .fp8e4m3) = V m c main_arg2 := by
  obtain ⟨e0, e1⟩ := idx2 t
  funext j
  refine congrArg (V m c main_arg2) (funext fun a => Fin.ext ?_)
  match a with
  | ⟨0, _⟩ => show win0_2.index t (0 : Fin 2) * 3584 + 1 * (j 0).val = (j 0).val; omega
  | ⟨1, _⟩ => show win0_2.index t (1 : Fin 2) * 6016 + 1 * (j 1).val = (j 1).val; omega

/-- Every point's block of the column scales is the whole array. -/
theorem iblk3_eq (c : Dev nD) (t : Fin cfg0.N) : (iblk m c 3 t : Vec F S6016 .f32) = V m c main_arg3 := by
  have e0 := idx3 t
  funext j
  refine congrArg (V m c main_arg3) (funext fun a => Fin.ext ?_)
  match a with
  | ⟨0, _⟩ => show win0_3.index t (0 : Fin 1) * 6016 + 1 * (j 0).val = (j 0).val; omega

/-- Index (`r`, `q`) of point `t`'s block of the result is index (`1024 t + r`, `q`) of the array. -/
theorem emb4 (t : Fin cfg0.N) (r : Fin 1024) (q : Fin 6016) (n : Fin 12288) (hn : n.val = 1024 * t.val + r.val) :
    ((cfg0.win 4).blk t).view.emb (ix2 r q : S1024x6016.Idx) = (ix2 n q : S12288x6016.Idx) := by
  obtain ⟨e0, e1⟩ := idx4 t
  funext a; apply Fin.ext
  match a with
  | ⟨0, _⟩ => show win0_4.index t (0 : Fin 2) * 1024 + 1 * r.val = n.val; omega
  | ⟨1, _⟩ => show win0_4.index t (1 : Fin 2) * 6016 + 1 * q.val = q.val; omega

/-- Every index of the result is in some point's block: row `r` in the band of point `r / 1024`. -/
theorem covered4 (j : S12288x6016.Idx) :
    ∃ t : Fin cfg0.N, (cfg0.win 4).flush t = true ∧ j ∈ ((cfg0.win 4).blk t).view.set := by
  have hN : cfg0.N = 12 := N_0
  have hj : (j 0).val < 12288 := (j 0).isLt
  let t : Fin cfg0.N := ⟨(j 0).val / 1024, by omega⟩
  refine ⟨t, flush0_4 t, ?_⟩
  have h := ((cfg0.win 4).blk t).view.emb_mem_set (ix2 ⟨(j 0).val % 1024, by omega⟩ (j 1) : S1024x6016.Idx)
  rw [emb4 t ⟨(j 0).val % 1024, by omega⟩ (j 1) (j 0) (by show (j 0).val = 1024 * ((j 0).val / 1024) + (j 0).val % 1024; omega)] at h
  rwa [show (ix2 (j 0) (j 1) : S12288x6016.Idx) = j from funext fun a => by match a with | ⟨0, _⟩ => rfl | ⟨1, _⟩ => rfl] at h

end

variable (m : (ℓ : Loc nD τ sig) → Buf (Elt Ideal) ℓ)

/-- The value at row `r`, column `q` of point `t`'s block is the kernel's value at row `1024 t + r`, column `q`. -/
theorem block_apply (c : Dev nD) (t : Fin cfg0.N) (r : Fin 1024) (q : Fin 6016) (n : Fin 12288)
    (hn : n.val = 1024 * t.val + r.val) :
    k0_pay1 (F := Ideal) (lines (grid0.coords t) (V m c main_v1)) (iblk m c 0 t) (V m c main_arg2) (V m c main_arg3) (ix2 r q)
      = at_ (V m c main_v0) (V m c main_v1) (V m c main_arg2) (V m c main_arg3) n q := by
  refine pay_eq_at _ _ _ _ _ _ r q n (fun k => iblk0_apply m c t r k n hn) ?_
  rw [lines_apply (grid0.coords t) (V m c main_v1) _ _ ⟨n.val / 128, by omega⟩
    (by rw [coord t]; show n.val / 128 = 8 * t.val + r.val / 128; omega)]
  exact congrArg (fun l => (V m c main_v1 : Vec Ideal S96x128 .f32) (ix2 _ l)) (Fin.ext (by show r.val % 128 = n.val % 128; omega))

/-- What point `t` writes back is its band of the whole result. -/
theorem flushed4_eq (c : Dev nD) (t : Fin cfg0.N) :
    (dats m 0 c).flushed 4 t = ((cfg0.win 4).blk t).view.read (Elt Ideal)
      (rows (V m c main_v0) (V m c main_v1) (V m c main_arg2) (V m c main_arg3)) := by
  show (cfg0.win 4).cut (grid0.coords t) ((dats m 0 c).after 4 t) = _
  rw [after0_4]
  unfold outsAt0
  rw [out_eq, iblk1_eq, iblk2_eq, iblk3_eq]
  funext j
  have hN : cfg0.N = 12 := N_0
  have ht := t.isLt
  have hj : (j 0).val < 1024 := (j 0).isLt
  obtain ⟨r, q, rfl⟩ : ∃ (r : Fin 1024) (q : Fin 6016), j = (ix2 r q : S1024x6016.Idx) :=
    ⟨j 0, j 1, funext fun a => by match a with | ⟨0, _⟩ => rfl | ⟨1, _⟩ => rfl⟩
  let n : Fin 12288 := ⟨1024 * t.val + r.val, by omega⟩
  show _ = rows _ _ _ _ (((cfg0.win 4).blk t).view.emb (ix2 r q : S1024x6016.Idx))
  rw [emb4 t r q n rfl]
  exact block_apply m c t r q n rfl

/-- The array after the grid has run is the whole result of the four arrays the grid found. -/
theorem final4 (c : Dev nD) : (dats m 0 c).arrAt 4 cfg0.N
    = rows (V m c main_v0) (V m c main_v1) (V m c main_arg2) (V m c main_arg3) :=
  (dats m 0 c).arrAt_eq_of_cover 4 _ (fun t _ => flushed4_eq m c t) covered4

end Cert.KernelIdeal.Block

end
-- ==== Proof.KernelRun.lean ====
/-
  What the kernel's program leaves in its result, in exact arithmetic, as a function of its four arguments.

  Before the grid the program flattens the activations to rows and lays the row scales out as a table of lines of 128; after
  the grid it splits the rows of the result back into batch and sequence. `run` is the whole program's run with the result
  named; `result_apply` reads the result at an index.
-/
module

public import proofs.«01_k».proof.Proof.KernelArray
public import Idealize.ShloMosaic.Lib.Claim

@[expose] public section

noncomputable section

namespace Cert.KernelIdeal.Block

open Cert.KernelIdeal Cert.KernelIdeal.Gen Idealize.ShloMosaic Idealize.ShloMosaic.TcCoe Idealize.SL.Sem

/-- The result: the flattened result of the flattened activations and the table of row scales, split into batch and
    sequence. -/
def result (x : Vec Ideal S6x2048x3584 .fp8e4m3) (xs : Vec Ideal S6x2048x1 .f32) (w : Vec Ideal S3584x6016 .fp8e4m3)
    (ws : Vec Ideal S6016 .f32) : Vec Ideal S6x2048x6016 .bf16 :=
  shapeCast S6x2048x6016 (rows (shapeCast S12288x3584 x shapeCasts_S6x2048x3584_S12288x3584)
    (shapeCast S96x128 xs shapeCasts_S6x2048x1_S96x128) w ws) shapeCasts_S12288x6016_S6x2048x6016

/-- The result at batch `b`, position `p`, column `q`: the contraction of row (`b`, `p`) of the activations with column `q` of
    the weights, times that row's scale, times that column's scale. -/
theorem result_apply (x : Vec Ideal S6x2048x3584 .fp8e4m3) (xs : Vec Ideal S6x2048x1 .f32) (w : Vec Ideal S3584x6016 .fp8e4m3)
    (ws : Vec Ideal S6016 .f32) (b : Fin 6) (p : Fin 2048) (q : Fin 6016) :
    result x xs w ws (ix3 b p q)
      = (∑ k : Fin 3584, x (ix3 b p k) * w (ix2 k q)) * xs (ix3 b p 0) * ws (ix1 q) := by
  pointwise [result, rows, at_]

variable (m : (ℓ : Loc nD τ sig) → Buf (Elt Ideal) ℓ) (ρ : Dev nD → PrngReg)

/-- The grid finds the activations flattened to rows. -/
theorem V_main_v0 (c : Dev nD) : (V m c main_v0 : Vec Ideal S12288x3584 .fp8e4m3)
    = shapeCast S12288x3584 (m ((c : Thread nD τ).loc main_arg0)) shapeCasts_S6x2048x3584_S12288x3584 := by
  entry_read
  rfl

/-- The grid finds the row scales laid out as a table of lines of 128. -/
theorem V_main_v1 (c : Dev nD) : (V m c main_v1 : Vec Ideal S96x128 .f32)
    = shapeCast S96x128 (m ((c : Thread nD τ).loc main_arg1)) shapeCasts_S6x2048x1_S96x128 := by
  entry_read
  rfl

/-- After the last reshape the result buffer holds the result of the arguments as launched. -/
theorem W_main_v3 (c : Dev nD) : Pipeline.afterTail₀ cfgs (dats m) 0 (V0 m) [hostOps1] c main_v3
    = result (m ((c : Thread nD τ).loc main_arg0)) (m ((c : Thread nD τ).loc main_arg1))
        (m ((c : Thread nD τ).loc main_arg2)) (m ((c : Thread nD τ).loc main_arg3)) := by
  have h := Pipeline.withArrays_arr (τ := τ) spec0 winFacts0.arr_inj c (V0 m c) (fun w => (dats m 0 c).arrAt w cfg0.N) 4
  rw [final4, V_main_v0, V_main_v1, V_main_arg2, V_main_arg3] at h
  unfold Pipeline.afterTail₀ result
  rw [← h]
  rfl

/-- The program's run: every execution ends, the result buffer holding the result of the arguments, the arguments unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v3 (Pipeline.mem_restRefs_of main_v3 (by decide) (by decide))).trans (W_main_v3 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩)
    (run_main m ρ)

end Cert.KernelIdeal.Block

end
-- ==== Proof.RefValue.lean ====
/-
  What the reference computes, in exact arithmetic: at batch `b`, position `p`, column `q` the contraction of row (`b`, `p`)
  of the activations with column `q` of the weights, times that row's scale, times that column's scale.
-/
module

public import proofs.«01_k».proof.Proof.Gen.ReferenceIdeal.Value
public import Idealize.ShloMosaic.Lib.Pointwise

@[expose] public section

noncomputable section

namespace Cert.ReferenceIdeal.Apply

open Cert.ReferenceIdeal Cert.ReferenceIdeal.Gen Idealize.ShloMosaic

/-- The reference's result at an index. -/
theorem ref_apply (x : Vec Ideal S6x2048x3584 .fp8e4m3) (xs : Vec Ideal S6x2048x1 .f32) (w : Vec Ideal S3584x6016 .fp8e4m3)
    (ws : Vec Ideal S6016 .f32) (b : Fin 6) (p : Fin 2048) (q : Fin 6016) :
    Value.G4 (F := Ideal) x xs w ws (ix3 b p q)
      = (∑ k : Fin 3584, x (ix3 b p k) * w (ix2 k q)) * xs (ix3 b p 0) * ws (ix1 q) := by
  pointwise [Value.G4, k0_pay1]

end Cert.ReferenceIdeal.Apply

end
-- ==== Proof.Equation.lean ====
/-
  The equation: in exact arithmetic the kernel's result and the reference's are the same array, for every activations,
  row scales, weights and column scales.
-/
module

public import proofs.«01_k».proof.Proof.KernelRun
public import proofs.«01_k».proof.Proof.RefValue

@[expose] public section

noncomputable section

namespace Cert.Equation

open Cert.KernelIdeal Idealize.ShloMosaic

/-- The kernel's result is the reference's: at every index both are the same contraction times the same two scales. -/
theorem result_eq (x : Vec Ideal S6x2048x3584 .fp8e4m3) (xs : Vec Ideal S6x2048x1 .f32) (w : Vec Ideal S3584x6016 .fp8e4m3)
    (ws : Vec Ideal S6016 .f32) : Cert.ReferenceIdeal.Value.G4 (F := Ideal) x xs w ws = Block.result x xs w ws := by
  funext j
  obtain ⟨b, p, q, rfl⟩ : ∃ (b : Fin 6) (p : Fin 2048) (q : Fin 6016), j = (ix3 b p q : S6x2048x6016.Idx) :=
    ⟨j 0, j 1, j 2, funext fun a => by match a with | ⟨0, _⟩ => rfl | ⟨1, _⟩ => rfl | ⟨2, _⟩ => rfl⟩
  exact (Cert.ReferenceIdeal.Apply.ref_apply x xs w ws b p q).trans (Block.result_apply x xs w ws b p q).symm

end Cert.Equation

end
-- ==== Proof.lean ====
/-
  The five claims, assembled: the three programs end and leave their arguments unchanged; the kernel in exact arithmetic is
  the kernel as printed; and in exact arithmetic the kernel's result is the reference's, on every input.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories whose arguments agree, the kernel and the reference both end with the kernel's result of the arguments in
    their result buffers, and with their arguments unchanged. -/
theorem algebraic : Cert.algebraic_KernelIdeal_ReferenceIdeal := by
  intro m g m' g' _ hargs
  refine ⟨fun c => Cert.KernelIdeal.Block.result (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)), Cert.KernelIdeal.Block.run m g, ?_⟩
  refine (θ_run _ _ _).mono (fun r h c => ⟨?_, (h c).2⟩) (Cert.ReferenceIdeal.Value.run m' g')
  obtain ⟨h0, h1, h2, h3⟩ := hargs c
  rw [(h c).1, h0, h1, h2, h3]
  exact Cert.Equation.result_eq _ _ _ _

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
